-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg_lam" .f32 0xBD4CCCCD#32 ((-1 / 20 : ℝ) : EReal)
  ∧ IdealRules.named_const.Statement Cert.KernelIdeal.κ "lam" .f32 0x3D4CCCCD#32 ((1 / 20 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1x512 : Shape := ⟨2, ![1, 512]⟩
abbrev S512x1 : Shape := ⟨2, ![512, 1]⟩
abbrev S512x511 : Shape := ⟨2, ![512, 511]⟩
abbrev S511x512 : Shape := ⟨2, ![511, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c200_i32 : BitVec 32 := 200#32
  let v14 : BitVec 32 := Scalar.addi c0_i32 c200_i32
  let c1_i32 : BitVec 32 := 1#32
  ⟨c0_i32, v14, c1_i32⟩
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "lam" => some ((1 / 20 : ℝ) : EReal)
  | "neg_lam" => some ((-1 / 20 : ℝ) : EReal)
  | _ => none
-- ==== ReferenceIdeal.lean ====
abbrev S512x512 : Shape := ⟨2, ![512, 512]⟩
abbrev S_ : Shape := ⟨0, ![]⟩
abbrev S512x1 : Shape := ⟨2, ![512, 1]⟩
abbrev S512x511 : Shape := ⟨2, ![512, 511]⟩
abbrev S1x512 : Shape := ⟨2, ![1, 512]⟩
abbrev S511x512 : Shape := ⟨2, ![511, 512]⟩

abbrev nBuf : Space → Nat
  | .hbm => 88
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S_, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S512x512, .f32⟩
  | .hbm, ⟨8, _⟩ => ⟨S_, .i32⟩
  | .hbm, ⟨9, _⟩ => ⟨S_, .i32⟩
  | .hbm, ⟨10, _⟩ => ⟨S512x512, .f32⟩
  | .hbm, ⟨11, _⟩ => ⟨S512x512, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x1, .f32⟩
  | .hbm, ⟨21, _⟩ => ⟨S512x511, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S1x512, .f32⟩
  | .hbm, ⟨26, _⟩ => ⟨S511x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x511, .f32⟩
  | .hbm, ⟨34, _⟩ => ⟨S512x511, .f32⟩
  | .hbm, ⟨35, _⟩ => ⟨S512x511, .f32⟩
  | .hbm, ⟨36, _⟩ => ⟨S_, .f32⟩
  | .hbm, ⟨37, _⟩ => ⟨S512x1, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S512x512, .f32⟩
  | .hbm, ⟨47, _⟩ => ⟨S512x512, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S511x512, .f32⟩
  | .hbm, ⟨52, _⟩ => ⟨S511x512, .f32⟩
  | .hbm, ⟨53, _⟩ => ⟨S511x512, .f32⟩
  | .hbm, ⟨54, _⟩ => ⟨S_, .f32⟩
  | .hbm, ⟨55, _⟩ => ⟨S1x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S512x512, .f32⟩
  | .hbm, ⟨65, _⟩ => ⟨S512x512, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S512x1, .f32⟩
  | .hbm, ⟨76, _⟩ => ⟨S512x511, .f32⟩
  | .hbm, ⟨77, _⟩ => ⟨S512x512, .f32⟩
  | .hbm, ⟨78, _⟩ => ⟨S512x512, .f32⟩
  | .hbm, ⟨79, _⟩ => ⟨S_, .f32⟩
  | .hbm, ⟨80, _⟩ => ⟨S1x512, .f32⟩
  | .hbm, ⟨81, _⟩ => ⟨S511x512, .f32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_c_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_10 : Ref sig .tc := ⟨.hbm, 12, rfl⟩
abbrev main_while0c_v16 : Ref sig .tc := ⟨.hbm, 13, rfl⟩
abbrev main_while0b_c_10 : Ref sig .tc := ⟨.hbm, 14, rfl⟩
abbrev main_while0b_v16 : Ref sig .tc := ⟨.hbm, 15, rfl⟩
abbrev main_while0b_cst_11 : Ref sig .tc := ⟨.hbm, 16, rfl⟩
abbrev main_while0b_cst_12 : Ref sig .tc := ⟨.hbm, 17, rfl⟩
abbrev main_while0b_v17 : Ref sig .tc := ⟨.hbm, 18, rfl⟩
abbrev main_while0b_cst_13 : Ref sig .tc := ⟨.hbm, 19, rfl⟩
abbrev main_while0b_v18 : Ref sig .tc := ⟨.hbm, 20, rfl⟩
abbrev main_while0b_v19 : Ref sig .tc := ⟨.hbm, 21, rfl⟩
abbrev main_while0b_v20 : Ref sig .tc := ⟨.hbm, 22, rfl⟩
abbrev main_while0b_v21 : Ref sig .tc := ⟨.hbm, 23, rfl⟩
abbrev main_while0b_cst_14 : Ref sig .tc := ⟨.hbm, 24, rfl⟩
abbrev main_while0b_v22 : Ref sig .tc := ⟨.hbm, 25, rfl⟩
abbrev main_while0b_v23 : Ref sig .tc := ⟨.hbm, 26, rfl⟩
abbrev main_while0b_v24 : Ref sig .tc := ⟨.hbm, 27, rfl⟩
abbrev main_while0b_v25 : Ref sig .tc := ⟨.hbm, 28, rfl⟩
abbrev main_while0b_v26 : Ref sig .tc := ⟨.hbm, 29, rfl⟩
abbrev main_while0b_v27 : Ref sig .tc := ⟨.hbm, 30, rfl⟩
abbrev main_while0b_v28 : Ref sig .tc := ⟨.hbm, 31, rfl⟩
abbrev main_while0b_v29 : Ref sig .tc := ⟨.hbm, 32, rfl⟩
abbrev main_while0b_v30 : Ref sig .tc := ⟨.hbm, 33, rfl⟩
abbrev main_while0b_v31 : Ref sig .tc := ⟨.hbm, 34, rfl⟩
abbrev main_while0b_v32 : Ref sig .tc := ⟨.hbm, 35, rfl⟩
abbrev main_while0b_cst_15 : Ref sig .tc := ⟨.hbm, 36, rfl⟩
abbrev main_while0b_v33 : Ref sig .tc := ⟨.hbm, 37, rfl⟩
abbrev main_while0b_v34 : Ref sig .tc := ⟨.hbm, 38, rfl⟩
abbrev main_while0b_cst_16 : Ref sig .tc := ⟨.hbm, 39, rfl⟩
abbrev main_while0b_v35 : Ref sig .tc := ⟨.hbm, 40, rfl⟩
abbrev main_while0b_v36 : Ref sig .tc := ⟨.hbm, 41, rfl⟩
abbrev main_while0b_v37 : Ref sig .tc := ⟨.hbm, 42, rfl⟩
abbrev main_while0b_cst_17 : Ref sig .tc := ⟨.hbm, 43, rfl⟩
abbrev main_while0b_cst_18 : Ref sig .tc := ⟨.hbm, 44, rfl⟩
abbrev main_while0b_call0_v0 : Ref sig .tc := ⟨.hbm, 45, rfl⟩
abbrev main_while0b_call0_v1 : Ref sig .tc := ⟨.hbm, 46, rfl⟩
abbrev main_while0b_call0_v2 : Ref sig .tc := ⟨.hbm, 47, rfl⟩
abbrev main_while0b_call0_v3 : Ref sig .tc := ⟨.hbm, 48, rfl⟩
abbrev main_while0b_call0_v4 : Ref sig .tc := ⟨.hbm, 49, rfl⟩
abbrev main_while0b_v38 : Ref sig .tc := ⟨.hbm, 50, rfl⟩
abbrev main_while0b_v39 : Ref sig .tc := ⟨.hbm, 51, rfl⟩
abbrev main_while0b_v40 : Ref sig .tc := ⟨.hbm, 52, rfl⟩
abbrev main_while0b_v41 : Ref sig .tc := ⟨.hbm, 53, rfl⟩
abbrev main_while0b_cst_19 : Ref sig .tc := ⟨.hbm, 54, rfl⟩
abbrev main_while0b_v42 : Ref sig .tc := ⟨.hbm, 55, rfl⟩
abbrev main_while0b_v43 : Ref sig .tc := ⟨.hbm, 56, rfl⟩
abbrev main_while0b_cst_20 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_cst_21 : Ref sig .tc := ⟨.hbm, 61, rfl⟩
abbrev main_while0b_cst_22 : Ref sig .tc := ⟨.hbm, 62, rfl⟩
abbrev main_while0b_call1_v0 : Ref sig .tc := ⟨.hbm, 63, rfl⟩
abbrev main_while0b_call1_v1 : Ref sig .tc := ⟨.hbm, 64, rfl⟩
abbrev main_while0b_call1_v2 : Ref sig .tc := ⟨.hbm, 65, rfl⟩
abbrev main_while0b_call1_v3 : Ref sig .tc := ⟨.hbm, 66, rfl⟩
abbrev main_while0b_call1_v4 : Ref sig .tc := ⟨.hbm, 67, rfl⟩
abbrev main_while0b_v47 : Ref sig .tc := ⟨.hbm, 68, rfl⟩
abbrev main_while0b_c_23 : Ref sig .tc := ⟨.hbm, 69, rfl⟩
abbrev main_while0b_v48 : Ref sig .tc := ⟨.hbm, 70, rfl⟩
abbrev main_cst_2 : Ref sig .tc := ⟨.hbm, 71, rfl⟩
abbrev main_cst_3 : Ref sig .tc := ⟨.hbm, 72, rfl⟩
abbrev main_v3 : Ref sig .tc := ⟨.hbm, 73, rfl⟩
abbrev main_cst_4 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_v7 : Ref sig .tc := ⟨.hbm, 78, rfl⟩
abbrev main_cst_5 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩

abbrev nD : Nat := 1
abbrev τ : Topo := Topo.v7x

variable {F : FTy → Type} [FloatOps F]

abbrev main_while0_count : Scf.Loop 32 := ⟨0#32, 200#32, 1#32⟩
-- ==== Proof.Consts.lean ====
/- The float constants of the two programs, as the extended reals they denote: the kernel's mask weight 0.125 and its two
   named clip bounds, the reference's divisor 20, its step 2.5, its clip bound -1, and its lambda, the quotient 1 / 20. -/
module

public import proofs.«01_k».proof.Proof.Gen.KernelIdeal
public import Idealize.ShloMosaic.PureOps.Ideal
public import Idealize.ShloMosaic.PureOps.IdealRules

@[expose] public section

noncomputable section

namespace Cert.Proof.Consts

open Idealize.ShloMosaic

/-- The kernel's weight off the masked line is the real 1/8. -/
theorem eighth : Ideal.ofBits .f32 0x3E000000#32 = ((1 / 8 : ℝ) : EReal) := by
  simp [Ideal.ofBits, Ideal.ieee, -EReal.coe_mul]; norm_num

/-- The reference divides 1 by the real 20 to make its lambda. -/
theorem twenty : Ideal.ofBits .f32 0x41A00000#32 = ((20 : ℝ) : EReal) := by
  simp [Ideal.ofBits, Ideal.ieee, -EReal.coe_mul]; norm_num

/-- The reference's step on the dual is the real 5/2. -/
theorem five_halves : Ideal.ofBits .f32 0x40200000#32 = ((5 / 2 : ℝ) : EReal) := by
  simp [Ideal.ofBits, Ideal.ieee, -EReal.coe_mul]; norm_num

/-- The reference's lower clip bound is the real -1. -/
theorem minus_one : Ideal.ofBits .f32 0xBF800000#32 = ((-1 : ℝ) : EReal) := by
  simp [Ideal.ofBits, Ideal.ieee, -EReal.coe_mul]; norm_num

/-- The reference's lambda, the quotient it computes, is the real 1/20. -/
theorem lambda : Ideal.div 1 (Ideal.ofBits .f32 0x41A00000#32) = ((1 / 20 : ℝ) : EReal) := by
  rw [twenty, Ideal.div_coe (by norm_num), one_mul]

/-- The kernel's upper clip bound, by its name, is the real 1/20. -/
theorem lam : (Named.named Cert.KernelIdeal.κ "lam" (0x3D4CCCCD#32 : BitVec (FTy.f32).bits) : Ideal .f32)
    = ((1 / 20 : ℝ) : EReal) :=
  IdealRules.named_const.ideal_named_scalar _ _ _ _ rfl

/-- The kernel's lower clip bound, by its name, is the real -1/20. -/
theorem neg_lam : (Named.named Cert.KernelIdeal.κ "neg_lam" (0xBD4CCCCD#32 : BitVec (FTy.f32).bits) : Ideal .f32)
    = ((-1 / 20 : ℝ) : EReal) :=
  IdealRules.named_const.ideal_named_scalar _ _ _ _ rfl

end Cert.Proof.Consts

end
-- ==== Proof.Clip.lean ====
/- One entry of the dual variable through one step. The reference keeps a dual entry `a` in [-1, 1] and steps by 5/2; the
   kernel keeps `a / 20` in [-1/20, 1/20] and steps by 1/8. Whatever extended real the difference `g` is, both land on the
   same entry, one twentieth apart. -/
module

public import Idealize.ShloMosaic.PureOps.Ideal

@[expose] public section

noncomputable section

namespace Cert.Proof.Clip

/-- The reference's step of one dual entry `a` against the difference `g`: subtract 5/2 of it, clip to [-1, 1]. -/
def unit (a g : EReal) : EReal :=
  min ((1 : ℝ) : EReal) (max ((-1 : ℝ) : EReal) (a - ((5 / 2 : ℝ) : EReal) * g))

/-- The kernel's step of one scaled dual entry `a` against `w` times the difference `g`: clip to [-1/20, 1/20]. -/
def scaled (a w g : EReal) : EReal :=
  min ((1 / 20 : ℝ) : EReal) (max ((-1 / 20 : ℝ) : EReal) (a - w * g))

/-- The reference's step at real arguments is a real number. -/
theorem unit_coe (a g : ℝ) : unit a g = ((min 1 (max (-1) (a - 5 / 2 * g)) : ℝ) : EReal) := by
  simp only [unit, ← EReal.coe_mul, ← EReal.coe_sub, ← EReal.coe_strictMono.monotone.map_max,
    ← EReal.coe_strictMono.monotone.map_min]

/-- The kernel's step at real arguments is a real number. -/
theorem scaled_coe (a w g : ℝ) :
    scaled a w g = ((min (1 / 20) (max (-1 / 20) (a - w * g)) : ℝ) : EReal) := by
  simp only [scaled, ← EReal.coe_mul, ← EReal.coe_sub, ← EReal.coe_strictMono.monotone.map_max,
    ← EReal.coe_strictMono.monotone.map_min]

/-- Clipping a twentieth to a twentieth of the bounds is a twentieth of the clip. -/
theorem clip_twentieth (t : ℝ) : min (1 / 20) (max (-1 / 20) (t / 20)) = min 1 (max (-1) t) / 20 := by
  have h : (0 : ℝ) ≤ 20 := by norm_num
  rw [← min_div_div_right h, ← max_div_div_right h]

/-- THE STEP: against any extended real difference, the two steps of a real dual entry end at one real entry, which the
    kernel holds as its twentieth. -/
theorem step (a : ℝ) (g : EReal) : ∃ b : ℝ, unit a g = (b : EReal)
    ∧ scaled ((a / 20 : ℝ) : EReal) ((1 / 8 : ℝ) : EReal) g = ((b / 20 : ℝ) : EReal) := by
  induction g with
  | bot =>
    refine ⟨1, ?_, ?_⟩
    · rw [unit, EReal.coe_mul_bot_of_pos (by norm_num), EReal.coe_sub_bot, max_eq_right le_top, min_eq_left le_top]
    · rw [scaled, EReal.coe_mul_bot_of_pos (by norm_num), EReal.coe_sub_bot, max_eq_right le_top, min_eq_left le_top]
  | top =>
    refine ⟨-1, ?_, ?_⟩
    · rw [unit, EReal.coe_mul_top_of_pos (by norm_num), EReal.sub_top, max_eq_left bot_le,
        min_eq_right (EReal.coe_le_coe_iff.2 (by norm_num))]
    · rw [scaled, EReal.coe_mul_top_of_pos (by norm_num), EReal.sub_top, max_eq_left bot_le,
        min_eq_right (EReal.coe_le_coe_iff.2 (by norm_num))]
  | coe g =>
    refine ⟨min 1 (max (-1) (a - 5 / 2 * g)), unit_coe a g, ?_⟩
    rw [scaled_coe, ← clip_twentieth]
    congr 3
    ring

/-- Where the difference is cut to zero an entry that is zero stays zero in the reference, -/
theorem unit_zero : unit ((0 : ℝ) : EReal) 0 = ((0 : ℝ) : EReal) := by
  have h := unit_coe 0 0
  rw [EReal.coe_zero] at h ⊢
  rw [h]
  norm_num

/-- and in the kernel, whose weight is zero there, whatever the difference. -/
theorem scaled_zero (g : EReal) : scaled ((0 : ℝ) : EReal) 0 g = ((0 : ℝ) : EReal) := by
  have h := scaled_coe 0 0 0
  rw [EReal.coe_zero] at h ⊢
  rw [scaled, zero_mul] at *
  rw [h]
  norm_num

end Cert.Proof.Clip

end
-- ==== Proof.Neighbour.lean ====
/- The index before and the index after a line of the 512 by 512 image, wrapping around at its ends. -/
module

public import Idealize.ShloMosaic.PureOps.Ideal

@[expose] public section

namespace Cert.Proof.Neighbour

/-- The line before, the last one before the first. -/
def prev (j : Fin 512) : Fin 512 := ⟨if j.val < 1 then 511 + j.val else j.val - 1, by have := j.isLt; split <;> omega⟩

/-- The line after, the first one after the last. -/
def next (j : Fin 512) : Fin 512 := ⟨if j.val < 511 then 1 + j.val else j.val - 511, by have := j.isLt; split <;> omega⟩

/-- The last line. -/
def last : Fin 512 := ⟨511, by decide⟩

/-- Before the first line comes the last. -/
theorem prev_first {j : Fin 512} (h : j.val < 1) : prev j = last := by
  apply Fin.ext; simp only [prev, last, if_pos h]; omega

/-- A line with none after it is the last. -/
theorem eq_last {j : Fin 512} (h : ¬ j.val < 511) : j = last := by
  apply Fin.ext; have := j.isLt; simp only [last]; omega

end Cert.Proof.Neighbour
-- ==== Proof.KernelStep.lean ====
/- What the kernel computes, entry by entry: the primal image from the scaled dual pair (`primal_apply`), and one iteration's
   new pair (`newP_apply`, `newQ_apply`). Its differences wrap around; the mask is a weight, zero on the last line. -/
module

public import proofs.«01_k».proof.Proof.Gen.KernelIdeal.Skeleton
public import proofs.«01_k».proof.Proof.Consts
public import proofs.«01_k».proof.Proof.Clip
public import proofs.«01_k».proof.Proof.Neighbour
public import Idealize.ShloMosaic.Lib.Pointwise

@[expose] public section

noncomputable section

namespace Cert.Proof.KernelStep

open Idealize.ShloMosaic Cert.KernelIdeal Cert.KernelIdeal.Gen Cert.Proof.Neighbour

/-- The kernel's weight of the difference at a line: zero on the last, 1/8 elsewhere. -/
def weight (j : Fin 512) : EReal := if j.val < 511 then ((1 / 8 : ℝ) : EReal) else 0

variable (x P Q : FVec Ideal S512x512 .f32) (i j : Fin 512)

/-- The primal image: the input less the wrapped backward differences of the pair. -/
theorem primal_apply : k0_pay2 x P Q (ix2 i j)
    = x (ix2 i j) - ((P (ix2 i j) - P (ix2 i (prev j))) + (Q (ix2 i j) - Q (ix2 (prev i) j))) := by
  pointwise [k0_pay2]
  unfold prev
  split <;> split <;> simp_all

/-- The stored image is the primal image of the pair the loop ends with. -/
theorem stored_eq : k0_pay5 x P Q = k0_pay2 x P Q := rfl

/-- The comparison with 511, spelled over words, chooses between nothing and an eighth: a product with the weight. -/
theorem select_weight (u : EReal) :
    Scalar.select (IntOp.cmpi CmpIPredicate.eq (BitVec.ofNat 32 j.val) 511#32) 0 (Ideal.ofBits .f32 0x3E000000#32 * u)
      = weight j * u := by
  have hj := j.isLt
  rw [Consts.eighth]
  unfold weight Scalar.select IntOp.cmpi
  by_cases h : j.val < 511
  · have hne : BitVec.ofNat 32 j.val ≠ 511#32 := fun e => by
      have := congrArg BitVec.toNat e
      simp at this
      omega
    simp only [beq_eq_false_iff_ne.2 hne, h]
    rfl
  · have he : j.val = 511 := by omega
    simp [he]

/-- One iteration's new first component, clipped from the difference along a row. -/
theorem newP_apply : k0_pay3 x P Q (ix2 i j)
    = Clip.scaled (P (ix2 i j)) (weight j) (k0_pay2 x P Q (ix2 i (next j)) - k0_pay2 x P Q (ix2 i j)) := by
  pointwise [k0_pay3]
  rw [Consts.lam, Consts.neg_lam, select_weight]
  unfold Clip.scaled next
  split <;> simp_all

/-- One iteration's new second component, clipped from the difference down a column. -/
theorem newQ_apply : k0_pay4 x P Q (ix2 i j)
    = Clip.scaled (Q (ix2 i j)) (weight i) (k0_pay2 x P Q (ix2 (next i) j) - k0_pay2 x P Q (ix2 i j)) := by
  pointwise [k0_pay4]
  rw [Consts.lam, Consts.neg_lam, select_weight]
  unfold Clip.scaled next
  split <;> simp_all

end Cert.Proof.KernelStep

end
-- ==== Proof.ReferenceStep.lean ====
/- What the reference computes, entry by entry: the primal image from the dual pair (`primal_apply`, `result_apply`), and
   one iteration's new pair (`newP_apply`, `newQ_apply`). Its differences are zero past the image's edge. -/
module

public import proofs.«01_k».proof.Proof.Gen.ReferenceIdeal.Step
public import proofs.«01_k».proof.Proof.Consts
public import proofs.«01_k».proof.Proof.Clip
public import proofs.«01_k».proof.Proof.Neighbour
public import Idealize.ShloMosaic.Lib.Pointwise

@[expose] public section

noncomputable section

namespace Cert.Proof.ReferenceStep

open Idealize.ShloMosaic Cert.ReferenceIdeal Cert.ReferenceIdeal.Gen Cert.ReferenceIdeal.Step Cert.Proof.Neighbour

/-- The value before a line, zero before the first. -/
def before (f : Fin 512 → EReal) (j : Fin 512) : EReal := if j.val < 1 then 0 else f (prev j)

/-- The forward difference at a line, zero at the last. -/
def forward (f : Fin 512 → EReal) (j : Fin 512) : EReal := if j.val < 511 then f (next j) - f j else 0

/-- The primal image at an entry, of the input and a dual pair. -/
def primal (x p q : FVec Ideal S512x512 .f32) (i j : Fin 512) : EReal :=
  x (ix2 i j) - ((1 / 20 : ℝ) : EReal) *
    ((p (ix2 i j) - before (fun l => p (ix2 i l)) j) + (q (ix2 i j) - before (fun k => q (ix2 k j)) i))

variable (n : ℕ) (s : State Ideal) (x : FVec Ideal S512x512 .f32) (i j : Fin 512)

/-- The primal image inside the loop. -/
theorem primal_apply : b18 n s (ix2 i j) = primal s.main_v2_0 s.main_v2_3 s.main_v2_4 i j := by
  pointwise [b18, b17, b16, b15, b14, b13, b12, b11, b10, b9, b8, b7, b6, b5, b4, b3, b2]
  rw [Consts.lambda]
  unfold primal before prev
  split <;> split <;> simp_all

/-- The result is the primal image of the pair the loop ends with. -/
theorem result_apply : R_main_v15 s x (ix2 i j) = primal x s.main_v2_3 s.main_v2_4 i j := by
  pointwise [R_main_v15]
  rw [Consts.lambda]
  unfold primal before prev
  split <;> split <;> simp_all

/-- One iteration's new first component, clipped from the difference along a row. -/
theorem newP_apply : (step n s).main_v2_3 (ix2 i j)
    = Clip.unit (s.main_v2_3 (ix2 i j)) (forward (fun l => b18 n s (ix2 i l)) j) := by
  rw [step_main_v2_3]
  pointwise [b36, b35, b34, b33, b32, b31, b30, b29, b28, b27, b26, b25, b24, b23, b22, b21, b20, b19]
  rw [Consts.minus_one, Consts.five_halves]
  unfold Clip.unit forward next
  split <;> simp_all

/-- One iteration's new second component, clipped from the difference down a column. -/
theorem newQ_apply : (step n s).main_v2_4 (ix2 i j)
    = Clip.unit (s.main_v2_4 (ix2 i j)) (forward (fun k => b18 n s (ix2 k j)) i) := by
  rw [step_main_v2_4]
  pointwise [b54, b53, b52, b51, b50, b49, b48, b47, b46, b45, b44, b43, b42, b41, b40, b39, b38, b37]
  rw [Consts.minus_one, Consts.five_halves]
  unfold Clip.unit forward next
  split <;> simp_all

end Cert.Proof.ReferenceStep

end
-- ==== Proof.Paired.lean ====
/- The two loops side by side. A kernel pair and a reference state are PAIRED when every dual entry is a real number, the
   kernel's is the twentieth of the reference's, and the entries on the masked line are zero. Paired values have the same
   primal image (`primal_eq`), the zero pairs are paired (`start`), and a step of each keeps them paired (`step`). -/
module

public import proofs.«01_k».proof.Proof.KernelStep
public import proofs.«01_k».proof.Proof.ReferenceStep

@[expose] public section

noncomputable section

namespace Cert.Proof.Paired

open Idealize.ShloMosaic Cert.Proof.Neighbour
open Cert.KernelIdeal (S512x512)
open Cert.KernelIdeal.Gen (k0_pay1 k0_pay2 k0_pay3 k0_pay4)
open Cert.ReferenceIdeal.Step (State b18)

/-- A pair of whole arrays. -/
abbrev Pair : Type := FVec Ideal S512x512 .f32 × FVec Ideal S512x512 .f32

/-- One array of the kernel's against one of the reference's, the masked line being where `edge` holds. -/
def Scaled (edge : Fin 512 → Fin 512 → Prop) (p P : FVec Ideal S512x512 .f32) : Prop :=
  ∀ i j, ∃ a : ℝ, p (ix2 i j) = (a : EReal) ∧ P (ix2 i j) = ((a / 20 : ℝ) : EReal) ∧ (edge i j → a = 0)

/-- A kernel pair `r` against a reference state `s`, both iterating on the input `x`. -/
structure Rel (x : FVec Ideal S512x512 .f32) (s : State Ideal) (r : Pair) : Prop where
  input : s.main_v2_0 = x
  first : Scaled (fun _ j => j = last) s.main_v2_3 r.1
  second : Scaled (fun i _ => i = last) s.main_v2_4 r.2

/-- A backward difference of the reference's, and the kernel's wrapped one, one twentieth of it: the wrapped entry read
    before the first line is on the masked line, so zero. -/
theorem backward {f F : Fin 512 → EReal}
    (h : ∀ j, ∃ a : ℝ, f j = (a : EReal) ∧ F j = ((a / 20 : ℝ) : EReal) ∧ (j = last → a = 0)) (j : Fin 512) :
    ∃ d : ℝ, f j - ReferenceStep.before f j = (d : EReal) ∧ F j - F (prev j) = ((d / 20 : ℝ) : EReal) := by
  obtain ⟨a, hf, hF, -⟩ := h j
  obtain ⟨b, hf', hF', hb⟩ := h (prev j)
  refine ⟨a - b, ?_, by rw [hF, hF', ← EReal.coe_sub, sub_div]⟩
  unfold ReferenceStep.before
  split
  · rename_i h1
    rw [hf, hb (prev_first h1), sub_zero, sub_zero]
  · rw [hf, hf', ← EReal.coe_sub]

/-- Paired values have the same primal image. -/
theorem primal_eq {x : FVec Ideal S512x512 .f32} {s : State Ideal} {r : Pair} (h : Rel x s r) (i j : Fin 512) :
    ReferenceStep.primal x s.main_v2_3 s.main_v2_4 i j = k0_pay2 x r.1 r.2 (ix2 i j) := by
  obtain ⟨d, hd, hD⟩ := backward (f := fun l => s.main_v2_3 (ix2 i l)) (F := fun l => r.1 (ix2 i l)) (h.first i) j
  obtain ⟨e, he, hE⟩ := backward (f := fun k => s.main_v2_4 (ix2 k j)) (F := fun k => r.2 (ix2 k j))
    (fun k => h.second k j) i
  rw [KernelStep.primal_apply, ReferenceStep.primal, hd, he, hD, hE, ← EReal.coe_add, ← EReal.coe_add, ← EReal.coe_mul]
  congr 2
  ring

/-- The image the reference's iteration differences is the one the kernel's does. -/
theorem inner_eq {x : FVec Ideal S512x512 .f32} {s : State Ideal} {r : Pair} (h : Rel x s r) (n : ℕ) (i j : Fin 512) :
    b18 n s (ix2 i j) = k0_pay2 x r.1 r.2 (ix2 i j) := by
  rw [ReferenceStep.primal_apply, h.input, primal_eq h]

/-- One dual entry through one iteration of each: it stays real, stays a twentieth, and stays zero on the masked line. -/
theorem entry {a : ℝ} {f F : Fin 512 → EReal} (hfF : ∀ l, f l = F l) (j : Fin 512) (ha : j = last → a = 0) :
    ∃ b : ℝ, Clip.unit (a : EReal) (ReferenceStep.forward f j) = (b : EReal)
      ∧ Clip.scaled ((a / 20 : ℝ) : EReal) (KernelStep.weight j) (F (next j) - F j) = ((b / 20 : ℝ) : EReal)
      ∧ (j = last → b = 0) := by
  by_cases hj : j.val < 511
  · rw [ReferenceStep.forward, if_pos hj, KernelStep.weight, if_pos hj, hfF, hfF]
    obtain ⟨b, h1, h2⟩ := Clip.step a (F (next j) - F j)
    exact ⟨b, h1, h2, fun e => absurd hj (by rw [e]; decide)⟩
  · obtain rfl := ha (eq_last hj)
    rw [ReferenceStep.forward, if_neg hj, KernelStep.weight, if_neg hj, zero_div]
    exact ⟨0, Clip.unit_zero, by rw [zero_div]; exact Clip.scaled_zero _, fun _ => rfl⟩

/-- One iteration of each keeps the first components paired. -/
theorem step_first {x : FVec Ideal S512x512 .f32} {s : State Ideal} {r : Pair} (h : Rel x s r) (n : ℕ) :
    Scaled (fun _ j => j = last) (Cert.ReferenceIdeal.Step.step n s).main_v2_3 (k0_pay3 x r.1 r.2) := by
  intro i j
  obtain ⟨a, hp, hP, ha⟩ := h.first i j
  obtain ⟨b, h1, h2, h3⟩ := entry (fun l => inner_eq h n i l) j ha
  exact ⟨b, by rw [ReferenceStep.newP_apply, hp, h1], by rw [KernelStep.newP_apply, hP, h2], h3⟩

/-- One iteration of each keeps the second components paired. -/
theorem step_second {x : FVec Ideal S512x512 .f32} {s : State Ideal} {r : Pair} (h : Rel x s r) (n : ℕ) :
    Scaled (fun i _ => i = last) (Cert.ReferenceIdeal.Step.step n s).main_v2_4 (k0_pay4 x r.1 r.2) := by
  intro i j
  obtain ⟨a, hq, hQ, ha⟩ := h.second i j
  obtain ⟨b, h1, h2, h3⟩ := entry (fun k => inner_eq h n k j) i ha
  exact ⟨b, by rw [ReferenceStep.newQ_apply, hq, h1], by rw [KernelStep.newQ_apply, hQ, h2], h3⟩

/-- An iteration of the reference hands the input on. -/
theorem step_input (s : State Ideal) (n : ℕ) : (Cert.ReferenceIdeal.Step.step n s).main_v2_0 = s.main_v2_0 := by
  unfold Cert.ReferenceIdeal.Step.step; rfl

/-- THE INVARIANT: one iteration of each keeps paired values paired. -/
theorem step {x : FVec Ideal S512x512 .f32} {s : State Ideal} {r : Pair} (h : Rel x s r) (n : ℕ) :
    Rel x (Cert.ReferenceIdeal.Step.step n s) (k0_pay3 x r.1 r.2, k0_pay4 x r.1 r.2) :=
  ⟨(step_input s n).trans h.input, step_first h n, step_second h n⟩

/-- Both loops start from zero arrays, which are paired. -/
theorem start (x : FVec Ideal S512x512 .f32) : Rel x (Cert.ReferenceIdeal.Step.init x) (k0_pay1, k0_pay1) where
  input := rfl
  first i j := by
    refine ⟨0, ?_, ?_, fun _ => rfl⟩
    · pointwise [Cert.ReferenceIdeal.Step.init, Cert.ReferenceIdeal.Step.K_main_v0, Cert.ReferenceIdeal.Step.K_main_cst]
      rfl
    · pointwise [k0_pay1]
      rw [zero_div, EReal.coe_zero]
  second i j := by
    refine ⟨0, ?_, ?_, fun _ => rfl⟩
    · pointwise [Cert.ReferenceIdeal.Step.init, Cert.ReferenceIdeal.Step.K_main_v1,
        Cert.ReferenceIdeal.Step.K_main_cst_0]
      rfl
    · pointwise [k0_pay1]
      rw [zero_div, EReal.coe_zero]

end Cert.Proof.Paired

end
-- ==== Proof.KernelRun.lean ====
/- The kernel's run: the result array as one function of the input array, at any float values. The loop is its two payloads
   iterated 200 times from zero arrays (`pairs`, `fold_eq_pairs`); the store writes the whole block (`out_eq`); at the one
   grid point a window's block is its whole array (`emb0`, `emb1`); so the array ends at `G` of the input (`run`). -/
module

public import proofs.«01_k».proof.Proof.Gen.KernelIdeal.Value

@[expose] public section

noncomputable section

namespace Cert.Proof.KernelRun

open Cert.KernelIdeal Cert.KernelIdeal.Gen Cert.KernelIdeal.Value Idealize.ShloMosaic Idealize.ShloMosaic.TcCoe Idealize.SL.Sem

variable {F : FTy → Type} [FloatOps F] [Named F]

/-- The dual pair after `n` iterations on the input `x`. -/
def pairs (x : Vec F S512x512 .f32) : ℕ → FVec F S512x512 .f32 × FVec F S512x512 .f32
  | 0 => (k0_pay1, k0_pay1)
  | n + 1 => (k0_pay3 x (pairs x n).1 (pairs x n).2, k0_pay4 x (pairs x n).1 (pairs x n).2)

/-- The result array as a function of the input array: the primal image of the pair after 200 iterations. -/
def G (x : Vec F S512x512 .f32) : Vec F S512x512 .f32 := k0_pay5 x (pairs x 200).1 (pairs x 200).2

/-- The loop makes 200 trips. -/
theorem trips : k0_t1_loop.trips = 200 := by decide +kernel

/-- A fold that ignores its index goes as far as the sequence of pairs does. -/
theorem foldl_pairs {α : Type} (x : Vec F S512x512 .f32) (l : List α) (k : ℕ) :
    l.foldl (fun r _ => (k0_pay3 x r.1 r.2, k0_pay4 x r.1 r.2)) (pairs x k) = pairs x (k + l.length) := by
  induction l generalizing k with
  | nil => rfl
  | cons a l ih =>
    rw [List.foldl_cons, List.length_cons, ← Nat.succ_add_eq_add_succ]
    exact ih (k + 1)

/-- So the loop ends with pair number 200. -/
theorem fold_eq_pairs (x : Vec F S512x512 .f32) :
    Scf.fold (fun (_ : Fin k0_t1_loop.trips) r => (k0_pay3 x r.1 r.2, k0_pay4 x r.1 r.2)) (k0_pay1, k0_pay1)
      = pairs x 200 := by
  rw [Scf.fold_eq]
  refine (foldl_pairs x _ 0).trans ?_
  rw [List.length_finRange, trips]

/-- The store's and the load's offset is zero on both axes. -/
theorem offset_zero : (![0, 0] : Fin 2 → Nat) = fun _ => 0 := funext fun a => by fin_cases a <;> rfl

/-- What the run leaves in the output's staging buffer is `G` of the input buffer's contents. -/
theorem out_eq (c : Dev nD) (arg0 : Memref sig .tc .vmem S512x512 .f32) (h0 : arg0.IsWhole)
    (arg1 : Memref sig .tc .vmem S512x512 .f32) (h1 : arg1.IsWhole) (x : Vec F S512x512 .f32) :
    out0_A_1 c arg0 h0 arg1 h1 x = G x := by
  have hv : View.readAt (Elt F) arg0.view (Rect.unit ![0, 0] S512x512.size inb_S512x512_S512x512_0_0).toLoadRect
      (h0.unread x) = x := by
    rw [View.readAt_eq_ld, h0.read_unread, View.ld_unit_zero offset_zero]
  unfold out0_A_1
  rw [View.read_writes_junk_eq_canon]
  have hp : (kernelRun0_A c arg0 h0 arg1 h1 x).1 = [⟨Rect.unit ![0, 0] S512x512.size inb_S512x512_S512x512_0_0,
      (fun v => k0_pay5 v
        (Scf.fold (fun (_ : Fin k0_t1_loop.trips) r => (k0_pay3 v r.1 r.2, k0_pay4 v r.1 r.2)) (k0_pay1, k0_pay1)).1
        (Scf.fold (fun (_ : Fin k0_t1_loop.trips) r => (k0_pay3 v r.1 r.2, k0_pay4 v r.1 r.2)) (k0_pay1, k0_pay1)).2)
      (View.readAt (Elt F) arg0.view (Rect.unit ![0, 0] S512x512.size inb_S512x512_S512x512_0_0).toLoadRect
        (h0.unread x))⟩] := rfl
  rw [hp, View.canon_unit_zero offset_zero, hv]
  simp only [fold_eq_pairs]
  rfl

variable (m : (ℓ : Loc nD τ sig) → Buf (Elt F) ℓ) (ρ : Dev nD → PrngReg)

/-- The input window's block starts at the array's origin. -/
theorem origin0 : ∀ t : Fin cfg0.N, win0_0.index t (0 : Fin 2) = 0 ∧ win0_0.index t (1 : Fin 2) = 0 :=
  (by decide +kernel : ∀ t : Fin grid0.N, _)

/-- The output window's block starts at the array's origin. -/
theorem origin1 : ∀ t : Fin cfg0.N, win0_1.index t (0 : Fin 2) = 0 ∧ win0_1.index t (1 : Fin 2) = 0 :=
  (by decide +kernel : ∀ t : Fin grid0.N, _)

/-- So an index of the input block is the same index of the input array. -/
theorem emb0 (t : Fin cfg0.N) (j : S512x512.Idx) : ((cfg0.win 0).blk t).view.emb j = j := by
  obtain ⟨e0, e1⟩ := origin0 t
  funext a; apply Fin.ext
  match a with
  | ⟨0, _⟩ => show win0_0.index t (0 : Fin 2) * 512 + 1 * (j 0).val = (j 0).val; omega
  | ⟨1, _⟩ => show win0_0.index t (1 : Fin 2) * 512 + 1 * (j 1).val = (j 1).val; omega

/-- And an index of the output block the same index of the result array. -/
theorem emb1 (t : Fin cfg0.N) (j : S512x512.Idx) : ((cfg0.win 1).blk t).view.emb j = j := by
  obtain ⟨e0, e1⟩ := origin1 t
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega

/-- The input block is the input array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- What the point writes back is its block of `G` of the input array. -/
theorem flushed_eq (c : Dev nD) (t : Fin cfg0.N) :
    (dats m 0 c).flushed 1 t = ((cfg0.win 1).blk t).view.read (Elt F) (G (V m c main_arg0)) := by
  rw [flushed1_A, out_eq, iblk0_eq]
  funext j
  show G (V m c main_arg0) j = G (V m c main_arg0) (((cfg0.win 1).blk t).view.emb j)
  rw [emb1]

/-- Every index of the result array is in the one point's block. -/
theorem covered (i : S512x512.Idx) :
    ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩

/-- The result array after the run is `G` of the input array as launched. -/
theorem final_eq (c : Dev nD) : (dats m 0 c).arrAt 1 cfg0.N = G (m ((c : Thread nD τ).loc main_arg0)) :=
  ((dats m 0 c).arrAt_eq_of_cover 1 (G (V m c main_arg0)) (fun t _ => flushed_eq m c t) covered).trans
    (by rw [V_main_arg0])

/-- The kernel's run, with the result array at `G` of the input array and the input array unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun _ h c => ⟨(h c).1.trans (final_eq m c), (h c).2⟩) (run_blocks m ρ)

end Cert.Proof.KernelRun

end
-- ==== Proof.Equation.lean ====
/- The equation of the two results: after 200 iterations from the same input the kernel's array is the reference's. -/
module

public import proofs.«01_k».proof.Proof.Paired
public import proofs.«01_k».proof.Proof.KernelRun

@[expose] public section

noncomputable section

namespace Cert.Proof.Equation

open Idealize.ShloMosaic
open Cert.KernelIdeal (S512x512)
open Cert.ReferenceIdeal.Step (State R_main_v15)

/-- The reference's state after `n` iterations on the input `x`. -/
def states (x : FVec Ideal S512x512 .f32) : ℕ → State Ideal
  | 0 => Cert.ReferenceIdeal.Step.init x
  | n + 1 => Cert.ReferenceIdeal.Step.step n (states x n)

/-- After every number of iterations the kernel's pair and the reference's state are paired. -/
theorem paired (x : FVec Ideal S512x512 .f32) : ∀ n, Paired.Rel x (states x n) (KernelRun.pairs x n)
  | 0 => Paired.start x
  | n + 1 => Paired.step (paired x n) n

/-- THE EQUATION: the reference's result, entry by entry, is the array the kernel stores. -/
theorem result_eq (x : FVec Ideal S512x512 .f32) : R_main_v15 (states x 200) x = KernelRun.G x := by
  funext i
  obtain ⟨k, l, rfl⟩ : ∃ k l : Fin 512, i = ix2 k l := ⟨i 0, i 1, by funext a; fin_cases a <;> rfl⟩
  rw [ReferenceStep.result_apply, Paired.primal_eq (paired x 200), KernelRun.G, KernelStep.stored_eq]

end Cert.Proof.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.StepRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel as it is printed runs, keeps its argument and leaves every semaphore at zero. -/
theorem frame_kernel : Cert.quiescent_Kernel := fun m ρ _ => Cert.Kernel.Gen.frame m ρ

/-- So does the kernel with its clip bounds named. -/
theorem frame_kernel_ideal : Cert.quiescent_KernelIdeal := fun m ρ _ => Cert.KernelIdeal.Gen.frame m ρ

/-- So does the reference, which names no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each named constant is the real number its name stands for. -/
theorem preserves : Cert.preserves_Kernel_KernelIdeal :=
  ⟨IdealRules.named_const.statement Cert.KernelIdeal.κ "neg_lam" .f32 0xBD4CCCCD#32 _ rfl,
    IdealRules.named_const.statement Cert.KernelIdeal.κ "lam" .f32 0x3D4CCCCD#32 _ rfl⟩

/-- From the same input the kernel and the reference end with the same array. -/
theorem algebraic : Cert.algebraic_KernelIdeal_ReferenceIdeal := by
  intro m ρ m' ρ' _ hin
  refine ⟨fun c => KernelRun.G (m ((c.tc : Thread Cert.KernelIdeal.nD Cert.KernelIdeal.τ).loc Cert.KernelIdeal.main_arg0)),
    KernelRun.run m ρ, ?_⟩
  refine (θ_run Cert.ReferenceIdeal.defs _ _).mono (fun r h c => ⟨(h c).1.trans ?_, (h c).2⟩)
    (Cert.ReferenceIdeal.StepRun.run_iter m' ρ'
      (fun c => Equation.states (m' ((c.tc : Thread Cert.ReferenceIdeal.nD Cert.ReferenceIdeal.τ).loc Cert.ReferenceIdeal.main_arg0)))
      (fun _ => rfl) (fun _ _ => rfl))
  rw [Equation.result_eq]
  exact congrArg KernelRun.G (hin c)

/-- Everything the certificate claims. -/
theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
